-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unbiased [hPre_finite_unbiased : Cert.Pre_finite_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unbiased [hPre_finite_unbiased : Cert.Pre_finite_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_unbiased [hKernelIdeal : Cert.KernelIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_unbiased [hReferenceIdeal : Cert.ReferenceIdeal.Facts] [hPre_finite_unbiased : Cert.Pre_finite_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "half_sum" .f32 0x3F0147AE#32 ((542239621 / 1073741824 : ℝ) : EReal)
  ∧ IdealRules.named_const.Statement Cert.KernelIdeal.κ "half_diff" .f32 0x3EFD70A4#32 ((531502203 / 1073741824 : ℝ) : EReal)
  ∧ IdealRules.named_const.Statement Cert.KernelIdeal.κ "slope" .f32 0x3C23D70A#32 ((5368709 / 536870912 : ℝ) : EReal)
  ∧ IdealRules.named_const.Statement Cert.KernelIdeal.κ "slope" .bf16 0x3C24#16 ((5368709 / 536870912 : ℝ) : EReal)

def algebraic_KernelIdeal_ReferenceIdeal_pre_finite_unbiased [hKernelIdeal : Cert.KernelIdeal.Facts] [hReferenceIdeal : Cert.ReferenceIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_unbiased : Cert.Pre_finite_unbiased.Facts),
    quiescent_Kernel (hKernel := hKernel)
    ∧ quiescent_KernelIdeal (hKernelIdeal := hKernelIdeal)
    ∧ quiescent_KernelIdeal_pre_finite_unbiased (hKernelIdeal := hKernelIdeal) (hPre_finite_unbiased := hPre_finite_unbiased)
    ∧ quiescent_ReferenceIdeal (hReferenceIdeal := hReferenceIdeal)
    ∧ quiescent_ReferenceIdeal_pre_finite_unbiased (hReferenceIdeal := hReferenceIdeal) (hPre_finite_unbiased := hPre_finite_unbiased)
    ∧ preserves_Kernel_KernelIdeal
    ∧ algebraic_KernelIdeal_ReferenceIdeal_pre_finite_unbiased (hKernelIdeal := hKernelIdeal) (hReferenceIdeal := hReferenceIdeal) (hPre_finite_unbiased := hPre_finite_unbiased)
-- ==== Pre_finite_unbiased.lean ====
abbrev S512x512x1 : Shape := ⟨3, ![512, 512, 1]⟩
abbrev S512x512 : Shape := ⟨2, ![512, 512]⟩
abbrev S1x64 : Shape := ⟨2, ![1, 64]⟩
abbrev S64 : Shape := ⟨1, ![64]⟩
abbrev S64x128 : Shape := ⟨2, ![64, 128]⟩
abbrev S128 : Shape := ⟨1, ![128]⟩
abbrev S256x512 : Shape := ⟨2, ![256, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S512x512x1 : S_.BroadcastsInDim S512x512x1 (![] : Fin 0 → Fin S512x512x1.rank)
  reducesTo_S512x512x1_S_d0_1_2 : S512x512x1.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v13 main_v16
  main_v17

def fn {F : FTy → Type} [FloatOps F] (main_arg0 : FVec F S512x512x1 .f32) (main_arg1 : FVec F S512x512x1 .f32) (main_arg2 : FVec F S512x512 .f32) (main_arg3 : FVec F S1x64 .f32) (main_arg4 : FVec F S64 .f32) (main_arg5 : FVec F S64x128 .f32) (main_arg6 : FVec F S128 .f32) (main_arg7 : FVec F S256x512 .f32) (main_arg8 : FVec F S512 .f32) (main_arg9 : FVec F S512x1 .f32) (main_arg10 : FVec F S1 .f32) : IVec S_ 1 :=
  let main_v0 : FVec F S512x512x1 .f32 := Host.absf main_arg0
  let main_cst : FVec F S_ .f32 := constant S_ .f32 0x7F800000#32
  let main_v1 : FVec F S512x512x1 .f32 := broadcastInDim S512x512x1 ![] bcast_S_S512x512x1 main_cst
  let main_v2 : IVec S512x512x1 1 := cmpf .olt main_v0 main_v1
  let main_c : IVec S_ 1 := constantI S_ 1 1#1
  let main_v3 : IVec S_ 1 := (fun x v => Host.reduce IntOp.andi x v reducesTo_S512x512x1_S_d0_1_2 h_S_) main_v2 main_c
  let main_v4 : FVec F S512x512x1 .f32 := Host.absf main_arg1
  let main_cst_0 : FVec F S_ .f32 := constant S_ .f32 0x7F800000#32
  let main_v5 : FVec F S512x512x1 .f32 := broadcastInDim S512x512x1 ![] bcast_S_S512x512x1 main_cst_0
  let main_v6 : IVec S512x512x1 1 := cmpf .olt main_v4 main_v5
  let main_c_1 : IVec S_ 1 := constantI S_ 1 1#1
  let main_v7 : IVec S_ 1 := (fun x v => Host.reduce IntOp.andi x v reducesTo_S512x512x1_S_d0_1_2 h_S_) main_v6 main_c_1
  let main_v8 : IVec S_ 1 := andi main_v3 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_cst_4 : FVec F S_ .f32 := constant S_ .f32 0x00000000#32
  let main_v14 : FVec F S64 .f32 := broadcastInDim S64 ![] bcast_S_S64 main_cst_4
  let main_v15 : IVec S64 1 := cmpf .oeq main_arg4 main_v14
  let main_c_5 : IVec S_ 1 := constantI S_ 1 1#1
  fn_part1 (F := F) main_v13 main_v15 main_c_5
-- ==== Kernel.lean ====
abbrev S512x512x1 : Shape := ⟨3, ![512, 512, 1]⟩
abbrev S512x512 : Shape := ⟨2, ![512, 512]⟩
abbrev S1x64 : Shape := ⟨2, ![1, 64]⟩
abbrev S64 : Shape := ⟨1, ![64]⟩
abbrev S64x128 : Shape := ⟨2, ![64, 128]⟩
abbrev S128 : Shape := ⟨1, ![128]⟩
abbrev S256x512 : Shape := ⟨2, ![256, 512]⟩
abbrev S512 : Shape := ⟨1, ![512]⟩
abbrev S512x1 : Shape := ⟨2, ![512, 1]⟩
abbrev S1 : Shape := ⟨1, ![1]⟩
abbrev S64x1 : Shape := ⟨2, ![64, 1]⟩
abbrev S128x64 : Shape := ⟨2, ![128, 64]⟩
abbrev S128x1 : Shape := ⟨2, ![128, 1]⟩
abbrev S128x512 : Shape := ⟨2, ![128, 512]⟩
abbrev S1x1 : Shape := ⟨2, ![1, 1]⟩
abbrev S1x512 : Shape := ⟨2, ![1, 512]⟩
abbrev S64x512 : Shape := ⟨2, ![64, 512]⟩

abbrev nBuf : Space → Nat
  | .hbm => 21
  | .vmem => 13
  | .smem => 0
  | _ => 0

abbrev bufTy : (tb : Table) → Fin (tcTables nBuf tb) → BufTy
  | .hbm, ⟨0, _⟩ => ⟨S512x512x1, .f32⟩
  | .hbm, ⟨1, _⟩ => ⟨S512x512x1, .f32⟩
  | .hbm, ⟨2, _⟩ => ⟨S512x512, .f32⟩
  | .hbm, ⟨3, _⟩ => ⟨S1x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S256x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S512x512, .f32⟩
  | .hbm, ⟨12, _⟩ => ⟨S512x512, .f32⟩
  | .hbm, ⟨13, _⟩ => ⟨S64x1, .f32⟩
  | .hbm, ⟨14, _⟩ => ⟨S128x64, .f32⟩
  | .hbm, ⟨15, _⟩ => ⟨S128x1, .f32⟩
  | .hbm, ⟨16, _⟩ => ⟨S128x512, .f32⟩
  | .hbm, ⟨17, _⟩ => ⟨S128x512, .f32⟩
  | .hbm, ⟨18, _⟩ => ⟨S512x1, .f32⟩
  | .hbm, ⟨19, _⟩ => ⟨S1x1, .f32⟩
  | .hbm, ⟨20, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S64x1, .f32⟩
  | .local _ .vmem, ⟨3, _⟩ => ⟨S128x64, .f32⟩
  | .local _ .vmem, ⟨4, _⟩ => ⟨S128x1, .f32⟩
  | .local _ .vmem, ⟨5, _⟩ => ⟨S128x512, .f32⟩
  | .local _ .vmem, ⟨6, _⟩ => ⟨S128x512, .f32⟩
  | .local _ .vmem, ⟨7, _⟩ => ⟨S512x1, .f32⟩
  | .local _ .vmem, ⟨8, _⟩ => ⟨S512x1, .f32⟩
  | .local _ .vmem, ⟨9, _⟩ => ⟨S1x1, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S512x512x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def k0_off1 (i : grid0.Coords) : Fin 2 → Nat :=
  let arg0 : BitVec 32 := BitVec.ofNat 32 (i 0).val
  let c512_i32 : BitVec 32 := 512#32
  let v3 : BitVec 32 := Scalar.muli arg0 c512_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "half_diff" => some ((531502203 / 1073741824 : ℝ) : EReal)
  | "half_sum" => some ((542239621 / 1073741824 : ℝ) : EReal)
  | "slope" => some ((5368709 / 536870912 : ℝ) : EReal)
  | _ => none
-- ==== ReferenceIdeal.lean ====
abbrev S512x512x1 : Shape := ⟨3, ![512, 512, 1]⟩
abbrev S512x512 : Shape := ⟨2, ![512, 512]⟩
abbrev S1x64 : Shape := ⟨2, ![1, 64]⟩
abbrev S64 : Shape := ⟨1, ![64]⟩
abbrev S64x128 : Shape := ⟨2, ![64, 128]⟩
abbrev S128 : Shape := ⟨1, ![128]⟩
abbrev S256x512 : Shape := ⟨2, ![256, 512]⟩
abbrev S512 : Shape := ⟨1, ![512]⟩
abbrev S512x1 : Shape := ⟨2, ![512, 1]⟩
abbrev S1 : Shape := ⟨1, ![1]⟩
abbrev S512x512x64 : Shape := ⟨3, ![512, 512, 64]⟩
abbrev S1x1x64 : Shape := ⟨3, ![1, 1, 64]⟩
abbrev S_ : Shape := ⟨0, ![]⟩
abbrev S512x64 : Shape := ⟨2, ![512, 64]⟩
abbrev S512x128 : Shape := ⟨2, ![512, 128]⟩
abbrev S1x128 : Shape := ⟨2, ![1, 128]⟩
abbrev S512x1x128 : Shape := ⟨3, ![512, 1, 128]⟩
abbrev S512x512x128 : Shape := ⟨3, ![512, 512, 128]⟩
abbrev S1x512x128 : Shape := ⟨3, ![1, 512, 128]⟩
abbrev S512x512x256 : Shape := ⟨3, ![512, 512, 256]⟩
abbrev S512x512x512 : Shape := ⟨3, ![512, 512, 512]⟩
abbrev S1x1x512 : Shape := ⟨3, ![1, 1, 512]⟩
abbrev S1x1x1 : Shape := ⟨3, ![1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S512x512x1, .f32⟩
  | .hbm, ⟨1, _⟩ => ⟨S512x512x1, .f32⟩
  | .hbm, ⟨2, _⟩ => ⟨S512x512, .f32⟩
  | .hbm, ⟨3, _⟩ => ⟨S1x64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S256x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S512x512x64, .f32⟩
  | .hbm, ⟨12, _⟩ => ⟨S1x1x64, .f32⟩
  | .hbm, ⟨13, _⟩ => ⟨S512x512x64, .f32⟩
  | .hbm, ⟨14, _⟩ => ⟨S512x512x64, .f32⟩
  | .hbm, ⟨15, _⟩ => ⟨S_, .f32⟩
  | .hbm, ⟨16, _⟩ => ⟨S_, .f32⟩
  | .hbm, ⟨17, _⟩ => ⟨S512x512x64, .f32⟩
  | .hbm, ⟨18, _⟩ => ⟨S512x512x64, .i1⟩
  | .hbm, ⟨19, _⟩ => ⟨S_, .f32⟩
  | .hbm, ⟨20, _⟩ => ⟨S512x512x64, .f32⟩
  | .hbm, ⟨21, _⟩ => ⟨S512x512x64, .f32⟩
  | .hbm, ⟨22, _⟩ => ⟨S512x512x64, .f32⟩
  | .hbm, ⟨23, _⟩ => ⟨S512x512x64, .f32⟩
  | .hbm, ⟨24, _⟩ => ⟨S1x1x64, .f32⟩
  | .hbm, ⟨25, _⟩ => ⟨S512x512x64, .f32⟩
  | .hbm, ⟨26, _⟩ => ⟨S512x512x64, .f32⟩
  | .hbm, ⟨27, _⟩ => ⟨S_, .f32⟩
  | .hbm, ⟨28, _⟩ => ⟨S_, .f32⟩
  | .hbm, ⟨29, _⟩ => ⟨S512x512x64, .f32⟩
  | .hbm, ⟨30, _⟩ => ⟨S512x512x64, .i1⟩
  | .hbm, ⟨31, _⟩ => ⟨S_, .f32⟩
  | .hbm, ⟨32, _⟩ => ⟨S512x512x64, .f32⟩
  | .hbm, ⟨33, _⟩ => ⟨S512x512x64, .f32⟩
  | .hbm, ⟨34, _⟩ => ⟨S512x512x64, .f32⟩
  | .hbm, ⟨35, _⟩ => ⟨S_, .f32⟩
  | .hbm, ⟨36, _⟩ => ⟨S512x64, .f32⟩
  | .hbm, ⟨37, _⟩ => ⟨S_, .f32⟩
  | .hbm, ⟨38, _⟩ => ⟨S512x64, .f32⟩
  | .hbm, ⟨39, _⟩ => ⟨S512x128, .f32⟩
  | .hbm, ⟨40, _⟩ => ⟨S1x128, .f32⟩
  | .hbm, ⟨41, _⟩ => ⟨S512x128, .f32⟩
  | .hbm, ⟨42, _⟩ => ⟨S512x128, .f32⟩
  | .hbm, ⟨43, _⟩ => ⟨S_, .f32⟩
  | .hbm, ⟨44, _⟩ => ⟨S_, .f32⟩
  | .hbm, ⟨45, _⟩ => ⟨S512x128, .f32⟩
  | .hbm, ⟨46, _⟩ => ⟨S512x128, .i1⟩
  | .hbm, ⟨47, _⟩ => ⟨S_, .f32⟩
  | .hbm, ⟨48, _⟩ => ⟨S512x128, .f32⟩
  | .hbm, ⟨49, _⟩ => ⟨S512x128, .f32⟩
  | .hbm, ⟨50, _⟩ => ⟨S512x128, .f32⟩
  | .hbm, ⟨51, _⟩ => ⟨S512x128, .f32⟩
  | .hbm, ⟨52, _⟩ => ⟨S1x128, .f32⟩
  | .hbm, ⟨53, _⟩ => ⟨S512x128, .f32⟩
  | .hbm, ⟨54, _⟩ => ⟨S512x128, .f32⟩
  | .hbm, ⟨55, _⟩ => ⟨S_, .f32⟩
  | .hbm, ⟨56, _⟩ => ⟨S_, .f32⟩
  | .hbm, ⟨57, _⟩ => ⟨S512x128, .f32⟩
  | .hbm, ⟨58, _⟩ => ⟨S512x128, .i1⟩
  | .hbm, ⟨59, _⟩ => ⟨S_, .f32⟩
  | .hbm, ⟨60, _⟩ => ⟨S512x128, .f32⟩
  | .hbm, ⟨61, _⟩ => ⟨S512x128, .f32⟩
  | .hbm, ⟨62, _⟩ => ⟨S512x128, .f32⟩
  | .hbm, ⟨63, _⟩ => ⟨S512x1x128, .f32⟩
  | .hbm, ⟨64, _⟩ => ⟨S512x512x128, .f32⟩
  | .hbm, ⟨65, _⟩ => ⟨S1x512x128, .f32⟩
  | .hbm, ⟨66, _⟩ => ⟨S512x512x128, .f32⟩
  | .hbm, ⟨67, _⟩ => ⟨S512x512x256, .f32⟩
  | .hbm, ⟨68, _⟩ => ⟨S512x512x512, .f32⟩
  | .hbm, ⟨69, _⟩ => ⟨S1x1x512, .f32⟩
  | .hbm, ⟨70, _⟩ => ⟨S512x512x512, .f32⟩
  | .hbm, ⟨71, _⟩ => ⟨S512x512x512, .f32⟩
  | .hbm, ⟨72, _⟩ => ⟨S_, .f32⟩
  | .hbm, ⟨73, _⟩ => ⟨S_, .f32⟩
  | .hbm, ⟨74, _⟩ => ⟨S512x512x512, .f32⟩
  | .hbm, ⟨75, _⟩ => ⟨S512x512x512, .i1⟩
  | .hbm, ⟨76, _⟩ => ⟨S_, .f32⟩
  | .hbm, ⟨77, _⟩ => ⟨S512x512x512, .f32⟩
  | .hbm, ⟨78, _⟩ => ⟨S512x512x512, .f32⟩
  | .hbm, ⟨79, _⟩ => ⟨S512x512x512, .f32⟩
  | .hbm, ⟨80, _⟩ => ⟨S512x512x1, .f32⟩
  | .hbm, ⟨81, _⟩ => ⟨S1x1x1, .f32⟩
  | .hbm, ⟨82, _⟩ => ⟨S512x512x1, .f32⟩
  | .hbm, ⟨83, _⟩ => ⟨S512x512x1, .f32⟩
  | .hbm, ⟨84, _⟩ => ⟨S512x512, .f32⟩
  | _, _ => ⟨S512x512x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_3 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_cst_4 : Ref sig .tc := ⟨.hbm, 55, rfl⟩
abbrev main_call3_cst : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_5 : Ref sig .tc := ⟨.hbm, 72, rfl⟩
abbrev main_call4_cst : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩

abbrev nD : Nat := 1
abbrev τ : Topo := Topo.v7x

variable {F : FTy → Type} [FloatOps F]
-- ==== Proof.Finite.lean ====
/- What the precondition `finite_unbiased` says, element by element: the edge features and the edge encoder's weights
   are real numbers, and the edge encoder's bias is zero. -/
module

public import proofs.«01_k».proof.Pre_finite_unbiased
public import Idealize.ShloMosaic.Lib.Pointwise
public import Idealize.ShloMosaic.Lib.ReduceAll

@[expose] public section

noncomputable section

namespace Cert.Finite

open Idealize.ShloMosaic Cert.Pre_finite_unbiased

/-- The side conditions the predicate's operations take hold. -/
theorem facts : Cert.Pre_finite_unbiased.Facts where
  bcast_S_S512x512x1 := by decide
  reducesTo_S512x512x1_S_d0_1_2 := by decide
  h_S_ := by decide
  bcast_S_S1x64 := by decide
  reducesTo_S1x64_S_d0_1 := by decide
  bcast_S_S64 := by decide
  reducesTo_S64_S_d0 := by decide

/-- The 32-bit constant for infinity denotes `⊤`. -/
theorem ofBits_inf : Ideal.ofBits .f32 0x7F800000#32 = (⊤ : EReal) := by
  simp [Ideal.ofBits, Ideal.ieee]

/-- An extended real whose size is below `⊤` is neither infinity. -/
theorem ne_of_size_lt (x : EReal) (h : max x (-x) < ⊤) : x ≠ ⊥ ∧ x ≠ ⊤ := by
  constructor <;> rintro rfl <;> simp at h

/-- A comparison word that is one says its comparison. -/
theorem of_word {p : Prop} [Decidable p] (h : BitVec.ofBool (decide p) = 1#1) : p := by
  by_contra hp; simp [hp] at h

variable [Cert.Pre_finite_unbiased.Facts]

instance : Subsingleton S_.Idx := ⟨fun _ _ => funext fun a => a.elim0⟩

/-- The precondition read at every index. -/
theorem elements (a b : FVec Ideal S512x512x1 .f32) (x2 : FVec Ideal S512x512 .f32) (w : FVec Ideal S1x64 .f32)
    (be : FVec Ideal S64 .f32) (x5 : FVec Ideal S64x128 .f32) (x6 : FVec Ideal S128 .f32) (x7 : FVec Ideal S256x512 .f32)
    (x8 : FVec Ideal S512 .f32) (x9 : FVec Ideal S512x1 .f32) (x10 : FVec Ideal S1 .f32)
    (h : fn (F := Ideal) a b x2 w be x5 x6 x7 x8 x9 x10 = fun _ => 1#1) :
    (∀ i, a i ≠ ⊥ ∧ a i ≠ ⊤) ∧ (∀ i, b i ≠ ⊥ ∧ b i ≠ ⊤) ∧ (∀ i, w i ≠ ⊥ ∧ w i ≠ ⊤) ∧ ∀ i, be i = 0 := by
  have h0 := congrFun h ix0
  unfold fn fn_part1 at h0
  obtain ⟨h1, hbe⟩ := IntOp.andi_eq_one.1 h0
  obtain ⟨h2, hw⟩ := IntOp.andi_eq_one.1 h1
  obtain ⟨ha, hb⟩ := IntOp.andi_eq_one.1 h2
  refine ⟨fun i => ?_, fun i => ?_, fun i => ?_, fun i => ?_⟩
  · have := Host.reduce_andi_all _ _ _ _ _ ha i
    refine ne_of_size_lt _ (of_word ?_)
    rw [← ofBits_inf]; exact this
  · have := Host.reduce_andi_all _ _ _ _ _ hb i
    refine ne_of_size_lt _ (of_word ?_)
    rw [← ofBits_inf]; exact this
  · have := Host.reduce_andi_all _ _ _ _ _ hw i
    refine ne_of_size_lt _ (of_word ?_)
    rw [← ofBits_inf]; exact this
  · have := Host.reduce_andi_all _ _ _ _ _ hbe i
    refine of_word (p := be i = 0) ?_
    rw [← Ideal.ofBits_zero .f32]; exact this

end Cert.Finite

end
-- ==== Proof.Leaky.lean ====
/- The leaky rectifier over the extended reals, the constants the programs spell for its slope, and the sum
   of the edge features' rectified products in closed form. Nothing here mentions a program. -/
module

public import Idealize.ShloMosaic.PureOps.Ideal

@[expose] public section

noncomputable section

namespace Cert.Leaky

open Idealize.ShloMosaic

/-- The slope of the leaky rectifier on the negative side: the real that the 32-bit constant `0.01` denotes. -/
def slope : ℝ := 5368709 / 536870912

/-- Half of one plus the slope. -/
def halfSum : ℝ := 542239621 / 1073741824

/-- Half of one minus the slope. -/
def halfDiff : ℝ := 531502203 / 1073741824

/-- The leaky rectifier: the identity at and above zero, the slope's multiple below. -/
def leaky (z : EReal) : EReal := max z ((slope : EReal) * z)

theorem slope_pos : 0 < slope := by norm_num [slope]

theorem slope_lt_one : slope < 1 := by norm_num [slope]

/-- The reference's 32-bit constant `0.01` is the slope. -/
theorem ofBits_slope : Ideal.ofBits .f32 0x3C23D70A#32 = (slope : EReal) := by
  simp [Ideal.ofBits, Ideal.ieee, -EReal.coe_mul, slope]; norm_num

/-- Where the argument is not negative the rectifier keeps it. -/
theorem leaky_of_nonneg (z : EReal) (h : 0 ≤ z) : leaky z = z := by
  unfold leaky
  refine max_eq_left ?_
  induction z with
  | bot => simp at h
  | top => exact le_top
  | coe x =>
    have hx : 0 ≤ x := by exact_mod_cast h
    rw [← EReal.coe_mul, EReal.coe_le_coe_iff]
    nlinarith [slope_lt_one]

/-- Below zero the rectifier multiplies by the slope. -/
theorem leaky_of_neg (z : EReal) (h : z < 0) : leaky z = (slope : EReal) * z := by
  unfold leaky
  refine max_eq_right ?_
  induction z with
  | bot => exact bot_le
  | top => simp at h
  | coe x =>
    have hx : x < 0 := by exact_mod_cast h
    rw [← EReal.coe_mul, EReal.coe_le_coe_iff]
    nlinarith [slope_lt_one]

/-- The rectifier written as a choice on the sign, the way the reference writes it. -/
theorem ite_eq_leaky (z : EReal) : (if 0 ≤ z then z else (slope : EReal) * z) = leaky z := by
  split_ifs with h
  · exact (leaky_of_nonneg z h).symm
  · exact (leaky_of_neg z (not_le.mp h)).symm

/-- On a real number the rectifier is half the sum with the number plus half the difference with its size. -/
theorem leaky_coe (x : ℝ) : leaky (x : EReal) = ((halfSum * x + halfDiff * |x| : ℝ) : EReal) := by
  rcases le_total 0 x with h | h
  · rw [leaky_of_nonneg _ (by exact_mod_cast h), abs_of_nonneg h, EReal.coe_eq_coe_iff]
    unfold halfSum halfDiff; ring
  · rcases h.eq_or_lt with rfl | h
    · rw [leaky_of_nonneg _ (by simp)]; simp
    · rw [leaky_of_neg _ (by exact_mod_cast h), abs_of_neg h, ← EReal.coe_mul, EReal.coe_eq_coe_iff]
      unfold halfSum halfDiff slope; ring

/-- The size of a real number, as a maximum in the extended reals. -/
theorem coe_max_neg (x : ℝ) : max (x : EReal) (-(x : EReal)) = ((|x| : ℝ) : EReal) := by
  rw [← EReal.coe_neg, abs_eq_max_neg]
  exact (EReal.coe_strictMono.monotone.map_max).symm

/-- A finite sum of real numbers, taken in the extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- THE CLOSED FORM. For real factors the sum of the rectified products is the weight's half sum times the plain
    sum, plus the weight's size times the half difference times the sum of the sizes. -/
theorem sum_leaky {n : ℕ} (a : Fin n → EReal) (w : EReal) (ha : ∀ i, a i ≠ ⊥ ∧ a i ≠ ⊤) (hw : w ≠ ⊥ ∧ w ≠ ⊤) :
    ((halfSum : EReal) * w) * (∑ i, a i) + ((halfDiff : EReal) * max w (-w)) * (∑ i, max (a i) (-(a i)))
      = ∑ i, leaky (a i * w) := by
  lift w to ℝ using ⟨hw.2, hw.1⟩
  lift a to Fin n → ℝ using fun i => ⟨(ha i).2, (ha i).1⟩
  simp only [coe_max_neg, ← EReal.coe_mul, leaky_coe, ← coe_sum, ← EReal.coe_add, EReal.coe_eq_coe_iff]
  simp only [Finset.mul_sum, ← Finset.sum_add_distrib, abs_mul]
  exact Finset.sum_congr rfl fun i _ => by ring

end Cert.Leaky

end
-- ==== Proof.Spec.lean ====
/- What the two programs compute, written once over plain functions of the coordinates: the edge encoder summed over
   the sources, the node encoder, the hidden layer over a pair of nodes, and the score of the pair. -/
module

public import proofs.«01_k».proof.Proof.Leaky

@[expose] public section

noncomputable section

namespace Cert.Spec

open Cert.Leaky

/-- One channel of a node's aggregate: the rectified edge features `a i · w + b`, summed over the sources `i`. -/
def agg (a : Fin 512 → EReal) (w b : EReal) : EReal := ∑ i, leaky (a i * w + b)

/-- One channel of a node's embedding, of its aggregate `g`: a row product, a bias and the rectifier. -/
def node (g wn : Fin 64 → EReal) (bn : EReal) : EReal := leaky (∑ e, g e * wn e + bn)

/-- One channel of the hidden layer of a pair of nodes, of their embeddings `na` and `nb`. -/
def hidden (na nb w1a w1b : Fin 128 → EReal) (b1 : EReal) : EReal :=
  leaky (∑ d, na d * w1a d + ∑ d, nb d * w1b d + b1)

/-- The score of a pair of nodes, of its hidden layer `h`. -/
def score (h w2 : Fin 512 → EReal) (b2 : EReal) : EReal := ∑ k, h k * w2 k + b2

/-- The score of the pair `(r, j)`: node `r` of the first graph against node `j` of the second. -/
def pairScore (a b : Fin 512 → Fin 512 → EReal) (we be : Fin 64 → EReal) (wn : Fin 64 → Fin 128 → EReal)
    (bn : Fin 128 → EReal) (w1a w1b : Fin 128 → Fin 512 → EReal) (b1 w2 : Fin 512 → EReal) (b2 : EReal)
    (r j : Fin 512) : EReal :=
  score (fun k => hidden
      (fun d => node (fun e => agg (fun i => a i r) (we e) (be e)) (fun e => wn e d) (bn d))
      (fun d => node (fun e => agg (fun i => b i j) (we e) (be e)) (fun e => wn e d) (bn d))
      (fun d => w1a d k) (fun d => w1b d k) (b1 k)) w2 b2

/-! ## The kernel's order of operations -/

/-- One channel of a node's aggregate in the closed form: the plain sum and the sum of the sizes, each times a factor. -/
def aggK (a : Fin 512 → EReal) (w : EReal) : EReal :=
  ((halfSum : EReal) * w) * (∑ i, a i) + ((halfDiff : EReal) * max w (-w)) * (∑ i, max (a i) (-(a i)))

/-- One channel of a node's embedding, the weight on the left of the product. -/
def nodeK (a : Fin 512 → EReal) (we wn : Fin 64 → EReal) (bn : EReal) : EReal :=
  leaky (∑ e, wn e * aggK a (we e) + bn)

/-- The score of the pair `(r, j)` with the hidden layer's two halves formed per node: the bias joins the second half. -/
def pairScoreK (a b : Fin 512 → Fin 512 → EReal) (we : Fin 64 → EReal) (wn : Fin 64 → Fin 128 → EReal)
    (bn : Fin 128 → EReal) (w1a w1b : Fin 128 → Fin 512 → EReal) (b1 w2 : Fin 512 → EReal) (b2 : EReal)
    (r j : Fin 512) : EReal :=
  ∑ k, w2 k * leaky (∑ d, nodeK (fun i => a i r) we (fun e => wn e d) (bn d) * w1a d k
      + (∑ d, w1b d k * nodeK (fun i => b i j) we (fun e => wn e d) (bn d) + b1 k)) + b2

end Cert.Spec

end
-- ==== Proof.RefValue.lean ====
/- What the reference computes: its result at the pair `(r, j)` is the pair's score. -/
module

public import proofs.«01_k».proof.Proof.Gen.ReferenceIdeal.Run
public import proofs.«01_k».proof.Proof.Spec
public import Idealize.ShloMosaic.Lib.Pointwise

@[expose] public section

noncomputable section

namespace Cert.ReferenceIdeal.RefValue

open Idealize.ShloMosaic Idealize.ShloMosaic.TcCoe Idealize.SL.Sem
open Cert.ReferenceIdeal Cert.ReferenceIdeal.Gen Cert.ReferenceIdeal.Value Cert.Leaky

set_option maxHeartbeats 1000000 in
/-- The reference's result at `(r, j)`: the row products, sums and sign choices of its operations, read at that
    index, are `Spec.pairScore` of the argument arrays' elements; the concatenated pair of embeddings times the
    first hidden weight is the sum of its two halves' products. -/
theorem result_apply (m : (ℓ : Loc nD τ sig) → Buf (Elt Ideal) ℓ) (c : Dev nD) (r j : Fin 512) :
    (res_out0 m c : FVec Ideal S512x512 .f32) (ix2 r j)
      = Spec.pairScore
          (fun i q => (m ((c.tc : Thread nD τ).loc main_arg0) : FVec Ideal S512x512x1 .f32) (ix3 i q 0))
          (fun i q => (m ((c.tc : Thread nD τ).loc main_arg1) : FVec Ideal S512x512x1 .f32) (ix3 i q 0))
          (fun e => (m ((c.tc : Thread nD τ).loc main_arg3) : FVec Ideal S1x64 .f32) (ix2 0 e))
          (fun e => (m ((c.tc : Thread nD τ).loc main_arg4) : FVec Ideal S64 .f32) (ix1 e))
          (fun e d => (m ((c.tc : Thread nD τ).loc main_arg5) : FVec Ideal S64x128 .f32) (ix2 e d))
          (fun d => (m ((c.tc : Thread nD τ).loc main_arg6) : FVec Ideal S128 .f32) (ix1 d))
          (fun d k => (m ((c.tc : Thread nD τ).loc main_arg7) : FVec Ideal S256x512 .f32) (ix2 ⟨d, by omega⟩ k))
          (fun d k => (m ((c.tc : Thread nD τ).loc main_arg7) : FVec Ideal S256x512 .f32) (ix2 ⟨128 + d, by omega⟩ k))
          (fun k => (m ((c.tc : Thread nD τ).loc main_arg8) : FVec Ideal S512 .f32) (ix1 k))
          (fun k => (m ((c.tc : Thread nD τ).loc main_arg9) : FVec Ideal S512x1 .f32) (ix2 k 0))
          ((m ((c.tc : Thread nD τ).loc main_arg10) : FVec Ideal S1 .f32) (ix1 0)) r j := by
  unfold res_out0 res_main_v36
  pointwise
  simp only [id, constant, Ideal.ofBits_def, ofBits_slope, ite_eq_leaky, Fin.sum_univ_one]
  rfl

end Cert.ReferenceIdeal.RefValue

end
-- ==== Proof.Equation.lean ====
/- The equation: under finite edge features and weights and no edge bias, the kernel's order of operations gives the
   reference's score. -/
module

public import proofs.«01_k».proof.Proof.Spec

@[expose] public section

noncomputable section

namespace Cert.Spec

open Cert.Leaky

/-- The closed form of an aggregate is the aggregate, the bias being zero. -/
theorem aggK_eq (a : Fin 512 → EReal) (w : EReal) (ha : ∀ i, a i ≠ ⊥ ∧ a i ≠ ⊤) (hw : w ≠ ⊥ ∧ w ≠ ⊤) :
    aggK a w = agg a w 0 := by
  simp only [aggK, agg, add_zero]
  exact sum_leaky a w ha hw

/-- So the embedding in the kernel's order is the embedding. -/
theorem nodeK_eq (a : Fin 512 → EReal) (we wn : Fin 64 → EReal) (bn : EReal) (ha : ∀ i, a i ≠ ⊥ ∧ a i ≠ ⊤)
    (hw : ∀ e, we e ≠ ⊥ ∧ we e ≠ ⊤) : nodeK a we wn bn = node (fun e => agg a (we e) 0) wn bn := by
  unfold nodeK node
  refine congrArg (fun s => leaky (s + bn)) (Finset.sum_congr rfl fun e _ => ?_)
  rw [aggK_eq a _ ha (hw e), mul_comm]

/-- So the score in the kernel's order is the score. -/
theorem pairScoreK_eq (a b : Fin 512 → Fin 512 → EReal) (we be : Fin 64 → EReal) (wn : Fin 64 → Fin 128 → EReal)
    (bn : Fin 128 → EReal) (w1a w1b : Fin 128 → Fin 512 → EReal) (b1 w2 : Fin 512 → EReal) (b2 : EReal)
    (r j : Fin 512) (ha : ∀ i q, a i q ≠ ⊥ ∧ a i q ≠ ⊤) (hb : ∀ i q, b i q ≠ ⊥ ∧ b i q ≠ ⊤)
    (hw : ∀ e, we e ≠ ⊥ ∧ we e ≠ ⊤) (hbe : ∀ e, be e = 0) :
    pairScoreK a b we wn bn w1a w1b b1 w2 b2 r j = pairScore a b we be wn bn w1a w1b b1 w2 b2 r j := by
  unfold pairScoreK pairScore score
  refine congrArg (· + b2) (Finset.sum_congr rfl fun k _ => ?_)
  simp only [nodeK_eq _ _ _ _ (fun i => ha i r) hw, nodeK_eq _ _ _ _ (fun i => hb i j) hw, hbe, hidden]
  rw [mul_comm, ← add_assoc]
  simp only [mul_comm (w1b _ k)]

end Cert.Spec

end
-- ==== Proof.KernelBlock.lean ====
/- What one block of the kernel computes: the node embeddings, the two halves of the hidden layer, and one row of
   scores, each read at an index. -/
module

public import proofs.«01_k».proof.Proof.Gen.KernelIdeal.Skeleton
public import proofs.«01_k».proof.Proof.Spec
public import Idealize.ShloMosaic.Lib.Pointwise

@[expose] public section

noncomputable section

namespace Cert.KernelIdeal.Block

open Idealize.ShloMosaic Idealize.ShloMosaic.TcCoe Idealize.SL.Sem
open Cert.KernelIdeal Cert.KernelIdeal.Gen Cert.Leaky

/-- The kernel's f32 slope denotes the slope's value. -/
theorem named_slope : Named.named (F := Ideal) κ "slope" (φ := .f32) 0x3C23D70A#32 = (slope : EReal) :=
  IdealRules.named_const.ideal_named_scalar _ _ _ _ rfl

/-- The kernel's bf16 slope denotes the same value. -/
theorem named_slope_bf16 : Named.named (F := Ideal) κ "slope" (φ := .bf16) 0x3C24#16 = (slope : EReal) :=
  IdealRules.named_const.ideal_named_scalar _ _ _ _ rfl

/-- The factor of the plain column sums is half of one plus the slope. -/
theorem named_half_sum : Named.named (F := Ideal) κ "half_sum" (φ := .f32) 0x3F0147AE#32 = (halfSum : EReal) :=
  IdealRules.named_const.ideal_named_scalar _ _ _ _ rfl

/-- The factor of the column sums of absolute values is half of one minus the slope. -/
theorem named_half_diff : Named.named (F := Ideal) κ "half_diff" (φ := .f32) 0x3EFD70A4#32 = (halfDiff : EReal) :=
  IdealRules.named_const.ideal_named_scalar _ _ _ _ rfl

set_option maxHeartbeats 1000000 in
/-- The first embedding at feature `d` of node `r`. -/
theorem pay5_apply (w : FVec Ideal S64x1 .f32) (wn : FVec Ideal S128x64 .f32) (x : FVec Ideal S512x512 .f32)
    (bn : FVec Ideal S128x1 .f32) (d : Fin 128) (r : Fin 512) :
    (k0_pay5 (F := Ideal) w wn x bn (ix2 d r) : EReal)
      = Spec.nodeK (fun i => x (ix2 i r)) (fun e => w (ix2 e 0)) (fun e => wn (ix2 d e)) (bn (ix2 d 0)) := by
  pointwise [k0_pay5, k0_pay3, k0_pay4]
  simp only [named_slope, named_half_sum, named_half_diff]
  rfl

/-- The first half of the hidden layer at node `r`, unit `k`. -/
theorem pay9_apply (na : FVec Ideal S128x512 .bf16) (w : FVec Ideal S128x512 .f32) (r k : Fin 512) :
    k0_pay9 (F := Ideal) na w (ix2 r k) = ∑ d : Fin 128, na (ix2 d r) * w (ix2 d k) := by
  pointwise [k0_pay9]

set_option maxHeartbeats 1000000 in
/-- The second half of the hidden layer, with its bias, at unit `k`, node `j`. -/
theorem pay10_apply (w : FVec Ideal S64x1 .f32) (wn : FVec Ideal S128x64 .f32) (x : FVec Ideal S512x512 .f32)
    (bn : FVec Ideal S128x1 .f32) (w1 : FVec Ideal S128x512 .f32) (b1 : FVec Ideal S512x1 .f32) (k j : Fin 512) :
    k0_pay10 (F := Ideal) (k0_pay3 w) (k0_pay4 wn) (k0_pay7 x) (k0_pay8 x)
        (Named.named (F := Ideal) κ "half_sum" (φ := .f32) 0x3F0147AE#32) bn w1 b1 (ix2 k j)
      = ∑ d : Fin 128, w1 (ix2 d k)
          * Spec.nodeK (fun i => x (ix2 i j)) (fun e => w (ix2 e 0)) (fun e => wn (ix2 d e)) (bn (ix2 d 0))
        + b1 (ix2 k 0) := by
  pointwise [k0_pay10, k0_pay3, k0_pay4, k0_pay6, k0_pay7, k0_pay8]
  simp only [named_slope, named_half_sum, named_half_diff]
  rfl

/-- Every column of the square array is a slice of it. -/
theorem slices_column (t : Fin 512) : S512x512.Slices ![0, t.val] S512x1 :=
  ⟨rfl, by intro a; fin_cases a <;> simp [S512x1, S512x512] <;> omega⟩

/-- One row of scores before the last bias: column `t` of the first half is added to the second half, the slope rule
    applied, and the last weight's row multiplied in. -/
def rowTerm (p : FVec Ideal S512x512 .f32) (q : FVec Ideal S512x512 .f32) (w : FVec Ideal S1x512 .bf16)
    (t : Fin 512) : FVec Ideal S1x512 .f32 :=
  have s : FVec Ideal S512x512 .bf16 := truncf .bf16 (addf (broadcastTo S512x512
    (extractStridedSlice S512x1 ![0, t.val] p (slices_column t))
    broadcasts_S512x1_S512x512) q) bitsLt_bf16_f32
  matmul dot_S1x512_S512x512_S1x512_1_0_0_1_n_n none w
    (maximumf s (mulf (broadcast S512x512 (Named.named κ "slope" 0x3C24#16)) s)) (constant S1x512 .f32 0x00000000#32)

/-- A row of scores at column `j`. -/
theorem rowTerm_apply (p : FVec Ideal S512x512 .f32) (q : FVec Ideal S512x512 .f32) (w : FVec Ideal S1x512 .bf16)
    (t j : Fin 512) :
    rowTerm p q w t (ix2 0 j) = ∑ k : Fin 512, w (ix2 0 k) * leaky (p (ix2 k t) + q (ix2 k j)) := by
  pointwise [rowTerm]
  simp only [named_slope_bf16]
  rfl

/-- The first half transposed. -/
theorem pay11_apply (p : FVec Ideal S512x512 .f32) (k r : Fin 512) : k0_pay11 (F := Ideal) p (ix2 k r) = p (ix2 r k) := by
  pointwise [k0_pay11]

/-- The last weight as a row. -/
theorem pay12_apply (w : FVec Ideal S512x1 .f32) (k : Fin 512) : (k0_pay12 (F := Ideal) w (ix2 0 k) : EReal) = w (ix2 k 0) := by
  pointwise [k0_pay12]

/-- The last bias added to the scores. -/
theorem pay2_apply (v : FVec Ideal S512x512 .f32) (b : FVec Ideal S1x1 .f32) (r j : Fin 512) :
    k0_pay2 (F := Ideal) v b (ix2 r j) = v (ix2 r j) + b (ix2 0 0) := by
  pointwise [k0_pay2]

/-- The rows of scores stacked: row `r` of the stack is the row of scores of node `r`. -/
theorem concat_rows (xs : List ((s : Shape) × (s.Idx → EReal))) (p : FVec Ideal S512x512 .f32)
    (q : FVec Ideal S512x512 .f32) (w : FVec Ideal S1x512 .bf16)
    (hxs : xs = List.ofFn fun t : Fin 512 => (⟨S1x512, rowTerm p q w t⟩ : (s : Shape) × (s.Idx → EReal)))
    (h : Shape.Concatenates (xs.map (·.1)) S512x512 0) (r j : Fin 512) :
    concatenate S512x512 0 xs h (ix2 r j)
      = ∑ k : Fin 512, w (ix2 0 k) * leaky (p (ix2 k r) + q (ix2 k j)) := by
  subst hxs
  rw [← rowTerm_apply]
  refine concatenate_ofFn_unit_apply (s₁ := S1x512) 0 _ h rfl rfl (ix2 r j) r rfl (ix2 0 j) fun b hb => ?_
  fin_cases b
  · exact absurd rfl hb
  · rfl

end Cert.KernelIdeal.Block

end
-- ==== Proof.Windows.lean ====
/- What the kernel's windows hold: at the one grid point each input window's block is its whole array, and each such
   array is an argument reshaped, transposed or cut before the kernel starts. -/
module

public import proofs.«01_k».proof.Proof.Gen.KernelIdeal.Frame.Runs
public import Idealize.ShloMosaic.Lib.Claim
public import Idealize.ShloMosaic.Lib.Pipeline.Value
public import Idealize.ShloMosaic.Lib.Pipeline.ValueKit
public import Idealize.ShloMosaic.Lib.Pointwise

@[expose] public section

noncomputable section

namespace Cert.KernelIdeal.Windows

open Idealize.ShloMosaic Idealize.ShloMosaic.TcCoe Idealize.SL.Sem
open Cert.KernelIdeal Cert.KernelIdeal.Gen

variable (m : (ℓ : Loc nD τ sig) → Buf (Elt Ideal) ℓ)

/-- Every window's block index at the one grid point is zero on both axes. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- The first matrix is the first argument without its last axis. -/
theorem iblk0_apply (c : Dev nD) (t : Fin cfg0.N) (i q : Fin 512) :
    (iblk m c 0 t : FVec Ideal S512x512 .f32) (ix2 i q)
      = (m ((c.tc : Thread nD τ).loc main_arg0) : FVec Ideal S512x512x1 .f32) (ix3 i q 0) := by
  blk_ext! [iblk, V, idx t]

/-- The second matrix is the second argument without its last axis. -/
theorem iblk1_apply (c : Dev nD) (t : Fin cfg0.N) (i q : Fin 512) :
    (iblk m c 1 t : FVec Ideal S512x512 .f32) (ix2 i q)
      = (m ((c.tc : Thread nD τ).loc main_arg1) : FVec Ideal S512x512x1 .f32) (ix3 i q 0) := by
  blk_ext! [iblk, V, idx t]

/-- The edge weight stands as a column. -/
theorem iblk2_apply (c : Dev nD) (t : Fin cfg0.N) (e : Fin 64) :
    (iblk m c 2 t : FVec Ideal S64x1 .f32) (ix2 e 0)
      = (m ((c.tc : Thread nD τ).loc main_arg3) : FVec Ideal S1x64 .f32) (ix2 0 e) := by
  blk_ext! [iblk, V, idx t]

/-- The node weight stands transposed. -/
theorem iblk3_apply (c : Dev nD) (t : Fin cfg0.N) (d : Fin 128) (e : Fin 64) :
    (iblk m c 3 t : FVec Ideal S128x64 .f32) (ix2 d e)
      = (m ((c.tc : Thread nD τ).loc main_arg5) : FVec Ideal S64x128 .f32) (ix2 e d) := by
  blk_ext! [iblk, V, idx t]

/-- The node bias stands as a column. -/
theorem iblk4_apply (c : Dev nD) (t : Fin cfg0.N) (d : Fin 128) :
    (iblk m c 4 t : FVec Ideal S128x1 .f32) (ix2 d 0)
      = (m ((c.tc : Thread nD τ).loc main_arg6) : FVec Ideal S128 .f32) (ix1 d) := by
  blk_ext! [iblk, V, idx t]

/-- The upper half of the first hidden weight. -/
theorem iblk5_apply (c : Dev nD) (t : Fin cfg0.N) (d : Fin 128) (k : Fin 512) :
    (iblk m c 5 t : FVec Ideal S128x512 .f32) (ix2 d k)
      = (m ((c.tc : Thread nD τ).loc main_arg7) : FVec Ideal S256x512 .f32) (ix2 ⟨d, by omega⟩ k) := by
  blk_ext! [iblk, V, idx t]

/-- The lower half of the first hidden weight. -/
theorem iblk6_apply (c : Dev nD) (t : Fin cfg0.N) (d : Fin 128) (k : Fin 512) :
    (iblk m c 6 t : FVec Ideal S128x512 .f32) (ix2 d k)
      = (m ((c.tc : Thread nD τ).loc main_arg7) : FVec Ideal S256x512 .f32) (ix2 ⟨128 + d, by omega⟩ k) := by
  blk_ext! [iblk, V, idx t]

/-- The hidden bias stands as a column. -/
theorem iblk7_apply (c : Dev nD) (t : Fin cfg0.N) (k : Fin 512) :
    (iblk m c 7 t : FVec Ideal S512x1 .f32) (ix2 k 0)
      = (m ((c.tc : Thread nD τ).loc main_arg8) : FVec Ideal S512 .f32) (ix1 k) := by
  blk_ext! [iblk, V, idx t]

/-- The last weight is the argument itself. -/
theorem iblk8_apply (c : Dev nD) (t : Fin cfg0.N) (k : Fin 512) :
    (iblk m c 8 t : FVec Ideal S512x1 .f32) (ix2 k 0)
      = (m ((c.tc : Thread nD τ).loc main_arg9) : FVec Ideal S512x1 .f32) (ix2 k 0) := by
  blk_ext! [iblk, V, idx t]

/-- The last bias stands as a square of one entry. -/
theorem iblk9_apply (c : Dev nD) (t : Fin cfg0.N)  :
    (iblk m c 9 t : FVec Ideal S1x1 .f32) (ix2 0 0)
      = (m ((c.tc : Thread nD τ).loc main_arg10) : FVec Ideal S1 .f32) (ix1 0) := by
  blk_ext! [iblk, V, idx t]

/-- An index of the result's block is the same index of the result array. -/
theorem emb10 (t : Fin cfg0.N) (j : S512x512.Idx) : ((cfg0.win 10).blk t).view.emb j = j := by
  blk_ext [idx t]

/-- Cutting the block out of `X` and reading `X` through the block's view give the same. -/
theorem cut10_eq (t : Fin cfg0.N) (X : FVec Ideal S512x512 .f32) :
    (cfg0.win 10).cut (grid0.coords t) X = ((cfg0.win 10).blk t).view.read (Elt Ideal) X := by
  funext j
  show X j = X (((cfg0.win 10).blk t).view.emb j)
  rw [emb10]

/-- Every index of the result array is in the one point's block. -/
theorem covered10 (i : S512x512.Idx) :
    ∃ t : Fin cfg0.N, (cfg0.win 10).flush t = true ∧ i ∈ ((cfg0.win 10).blk t).view.set :=
  ⟨(⟨0, by decide⟩ : Fin cfg0.N), flush0_10 _, by
    have h := ((cfg0.win 10).blk (⟨0, by decide⟩ : Fin cfg0.N)).view.emb_mem_set i; rwa [emb10] at h⟩

end Cert.KernelIdeal.Windows

end
-- ==== Proof.KernelValue.lean ====
/- What the result array holds after the kernel's run: at every index the score, in the kernel's order of operations,
   of the argument arrays. -/
module

public import proofs.«01_k».proof.Proof.KernelBlock
public import proofs.«01_k».proof.Proof.Windows
public import proofs.«01_k».proof.Proof.Gen.KernelIdeal.Value

@[expose] public section

noncomputable section

namespace Cert.KernelIdeal.KernelValue

open Cert.KernelIdeal Cert.KernelIdeal.Gen Cert.KernelIdeal.Value Cert.KernelIdeal.Block Cert.KernelIdeal.Windows
open Idealize.ShloMosaic Idealize.ShloMosaic.TcCoe Idealize.SL.Sem

theorem hz : (![0, 0] : Fin 2 → Nat) = fun _ => 0 := funext fun a => by fin_cases a <;> rfl

/-- The one grid point's row offset is zero. -/
theorem off_zero (i : grid0.Coords) : k0_off1 i = fun _ => 0 := by
  have h : (i 0).val = 0 := by have := (i 0).isLt; change _ < 1 at this; omega
  rw [k0_off1_eq, h]; exact hz

/-- What the body reads back of the first scratch array: the first half of the hidden layer. -/
theorem first_apply
    (c : Dev nD) (i : grid0.Coords) (arg1 : Memref sig .tc .vmem S512x512 .f32) (harg1 : arg1.IsWhole)
    (arg3 : Memref sig .tc .vmem S64x1 .f32) (harg3 : arg3.IsWhole) (arg4 : Memref sig .tc .vmem S128x64 .f32)
    (harg4 : arg4.IsWhole) (arg5 : Memref sig .tc .vmem S128x1 .f32) (harg5 : arg5.IsWhole)
    (arg6 : Memref sig .tc .vmem S128x512 .f32) (harg6 : arg6.IsWhole) (arg12 : Memref sig .tc .vmem S512x512 .f32)
    (x0 : Vec Ideal S512x512 .f32) (x2 : Vec Ideal S64x1 .f32) (x3 : Vec Ideal S128x64 .f32)
    (x4 : Vec Ideal S128x1 .f32) (x5 : Vec Ideal S128x512 .f32)
    (r k : Fin 512) :
    (kernelRun0_A.sl.v5 (F := Ideal) c i arg1 harg1 arg3 harg3 arg4 harg4 arg5 harg5 arg6 harg6 arg12 x0 x2 x3 x4 x5 (ix2 r k) : EReal)
      = ∑ d : Fin 128, Spec.nodeK (fun q => x0 (ix2 q r)) (fun e => x2 (ix2 e 0)) (fun e => x3 (ix2 d e)) (x4 (ix2 d 0))
          * x5 (ix2 d k) := by
  unfold kernelRun0_A.sl.v5
  rw [View.readAt_writes_junk_eq_canon]
  show View.ld (View.canon _) (Rect.unit (k0_off1 i) S512x512.size _) (ix2 r k) = _
  rw [View.ld_unit_zero (S := S512x512) (off_zero i)]
  unfold kernelRun0_A.sl.HS0_1 kernelRun0_A.sl.r_2
  rw [View.canon_unit_zero (S := S512x512) hz, pay9_apply]
  simp only [pay5_apply, View.readAt_eq_ld, Memref.IsWhole.read_unread]
  rw [View.ld_unit_zero (S := S64x1) hz, View.ld_unit_zero (S := S128x64) hz, View.ld_unit_zero (S := S512x512) hz,
    View.ld_unit_zero (S := S128x1) hz, View.ld_unit_zero (S := S128x512) hz]

/-- What the body reads back of the second scratch array: the second half of the hidden layer, with its bias. -/
theorem second_apply
    (c : Dev nD) (arg2 : Memref sig .tc .vmem S512x512 .f32) (harg2 : arg2.IsWhole)
    (arg3 : Memref sig .tc .vmem S64x1 .f32) (harg3 : arg3.IsWhole) (arg4 : Memref sig .tc .vmem S128x64 .f32)
    (harg4 : arg4.IsWhole) (arg5 : Memref sig .tc .vmem S128x1 .f32) (harg5 : arg5.IsWhole)
    (arg7 : Memref sig .tc .vmem S128x512 .f32) (harg7 : arg7.IsWhole) (arg8 : Memref sig .tc .vmem S512x1 .f32)
    (harg8 : arg8.IsWhole) (arg13 : Memref sig .tc .vmem S512x512 .f32) (x1 : Vec Ideal S512x512 .f32)
    (x2 : Vec Ideal S64x1 .f32) (x3 : Vec Ideal S128x64 .f32) (x4 : Vec Ideal S128x1 .f32)
    (x6 : Vec Ideal S128x512 .f32) (x7 : Vec Ideal S512x1 .f32)
    (k j : Fin 512) :
    (kernelRun0_A.sl.v7 (F := Ideal) c arg2 harg2 arg3 harg3 arg4 harg4 arg5 harg5 arg7 harg7 arg8
        harg8 arg13 x1 x2 x3 x4 x6 x7 (ix2 k j) : EReal)
      = ∑ d : Fin 128, x6 (ix2 d k)
          * Spec.nodeK (fun q => x1 (ix2 q j)) (fun e => x2 (ix2 e 0)) (fun e => x3 (ix2 d e)) (x4 (ix2 d 0))
        + x7 (ix2 k 0) := by
  unfold kernelRun0_A.sl.v7 kernelRun0_A.sl.HS1_1 kernelRun0_A.sl.r kernelRun0_A.sl.r_1 kernelRun0_A.sl.r_3
    kernelRun0_A.sl.r_4 kernelRun0_A.sl.cst_1050
  rw [View.readCov_unit_zero (S := S512x512) _ hz, pay10_apply]
  simp only [View.readAt_eq_ld, Memref.IsWhole.read_unread]
  rw [View.ld_unit_zero (S := S64x1) hz, View.ld_unit_zero (S := S128x64) hz, View.ld_unit_zero (S := S512x512) hz,
    View.ld_unit_zero (S := S128x1) hz, View.ld_unit_zero (S := S128x512) hz, View.ld_unit_zero (S := S512x1) hz]

set_option maxRecDepth 65536 in
/-- What the body leaves in the result's staging buffer, at an index: the score of the pair from the blocks it reads. -/
theorem out_apply
    (c : Dev nD) (i : grid0.Coords) (arg1 : Memref sig .tc .vmem S512x512 .f32) (harg1 : arg1.IsWhole)
    (arg2 : Memref sig .tc .vmem S512x512 .f32) (harg2 : arg2.IsWhole) (arg3 : Memref sig .tc .vmem S64x1 .f32)
    (harg3 : arg3.IsWhole) (arg4 : Memref sig .tc .vmem S128x64 .f32) (harg4 : arg4.IsWhole)
    (arg5 : Memref sig .tc .vmem S128x1 .f32) (harg5 : arg5.IsWhole) (arg6 : Memref sig .tc .vmem S128x512 .f32)
    (harg6 : arg6.IsWhole) (arg7 : Memref sig .tc .vmem S128x512 .f32) (harg7 : arg7.IsWhole)
    (arg8 : Memref sig .tc .vmem S512x1 .f32) (harg8 : arg8.IsWhole) (arg9 : Memref sig .tc .vmem S512x1 .f32)
    (harg9 : arg9.IsWhole) (arg10 : Memref sig .tc .vmem S1x1 .f32) (harg10 : arg10.IsWhole)
    (arg11 : Memref sig .tc .vmem S512x512 .f32) (harg11 : arg11.IsWhole)
    (arg12 : Memref sig .tc .vmem S512x512 .f32) (harg12 : arg12.IsWhole)
    (arg13 : Memref sig .tc .vmem S512x512 .f32) (harg13 : arg13.IsWhole) (hc0 : cond0_0 i)
    (x0 : Vec Ideal S512x512 .f32) (x1 : Vec Ideal S512x512 .f32) (x2 : Vec Ideal S64x1 .f32)
    (x3 : Vec Ideal S128x64 .f32) (x4 : Vec Ideal S128x1 .f32) (x5 : Vec Ideal S128x512 .f32)
    (x6 : Vec Ideal S128x512 .f32) (x7 : Vec Ideal S512x1 .f32) (x8 : Vec Ideal S512x1 .f32)
    (x9 : Vec Ideal S1x1 .f32)
    (r j : Fin 512) :
    (out0_A_10 (F := Ideal) c i arg1 harg1 arg2 harg2 arg3 harg3 arg4 harg4 arg5 harg5 arg6 harg6 arg7 harg7 arg8 harg8 arg9 harg9
        arg10 harg10 arg11 harg11 arg12 harg12 arg13 harg13 hc0 x0 x1 x2 x3 x4 x5 x6 x7 x8 x9 (ix2 r j) : EReal)
      = Spec.pairScoreK (fun p q => x0 (ix2 p q)) (fun p q => x1 (ix2 p q)) (fun e => x2 (ix2 e 0))
          (fun e d => x3 (ix2 d e)) (fun d => x4 (ix2 d 0)) (fun d k => x5 (ix2 d k)) (fun d k => x6 (ix2 d k))
          (fun k => x7 (ix2 k 0)) (fun k => x8 (ix2 k 0)) (x9 (ix2 0 0)) r j := by
  unfold out0_A_10
  rw [View.read_writes_junk_eq_canon]
  unfold kernelRun0_A
  dsimp only
  rw [View.canon_unit_zero (S := S512x512) hz, pay2_apply,
    concat_rows _ (k0_pay11 (kernelRun0_A.sl.v5 (F := Ideal) c i arg1 harg1 arg3 harg3 arg4 harg4 arg5 harg5 arg6 harg6 arg12 x0 x2 x3 x4 x5))
      (kernelRun0_A.sl.v7 (F := Ideal) c arg2 harg2 arg3 harg3 arg4 harg4 arg5 harg5 arg7 harg7 arg8
        harg8 arg13 x1 x2 x3 x4 x6 x7)
      (k0_pay12 (View.readAt (Elt Ideal) arg9.view (Rect.unit (s := S512x1) ![0, 0] S512x1.size inb_S512x1_S512x1_0_0).toLoadRect
        (harg9.unread x8))) (by chain_rfl)]
  simp only [pay11_apply, pay12_apply, first_apply, second_apply, View.readAt_eq_ld, Memref.IsWhole.read_unread]
  rw [View.ld_unit_zero (S := S512x1) hz, View.ld_unit_zero (S := S1x1) hz]
  rfl

variable (m : (ℓ : Loc nD τ sig) → Buf (Elt Ideal) ℓ) (ρ : Dev nD → PrngReg)

/-- The result array as one function of the argument arrays. -/
def G (c : Dev nD) : FVec Ideal S512x512 .f32 := fun y =>
  Spec.pairScoreK
    (fun i q => (m ((c.tc : Thread nD τ).loc main_arg0) : FVec Ideal S512x512x1 .f32) (ix3 i q 0))
    (fun i q => (m ((c.tc : Thread nD τ).loc main_arg1) : FVec Ideal S512x512x1 .f32) (ix3 i q 0))
    (fun e => (m ((c.tc : Thread nD τ).loc main_arg3) : FVec Ideal S1x64 .f32) (ix2 0 e))
    (fun e d => (m ((c.tc : Thread nD τ).loc main_arg5) : FVec Ideal S64x128 .f32) (ix2 e d))
    (fun d => (m ((c.tc : Thread nD τ).loc main_arg6) : FVec Ideal S128 .f32) (ix1 d))
    (fun d k => (m ((c.tc : Thread nD τ).loc main_arg7) : FVec Ideal S256x512 .f32) (ix2 ⟨d, by omega⟩ k))
    (fun d k => (m ((c.tc : Thread nD τ).loc main_arg7) : FVec Ideal S256x512 .f32) (ix2 ⟨128 + d, by omega⟩ k))
    (fun k => (m ((c.tc : Thread nD τ).loc main_arg8) : FVec Ideal S512 .f32) (ix1 k))
    (fun k => (m ((c.tc : Thread nD τ).loc main_arg9) : FVec Ideal S512x1 .f32) (ix2 k 0))
    ((m ((c.tc : Thread nD τ).loc main_arg10) : FVec Ideal S1 .f32) (ix1 0)) (y 0) (y 1)

/-- What the one grid point leaves in the result's staging buffer is that function. -/
theorem outsAt_eq (c : Dev nD) (t : Fin cfg0.N) : outsAt0 m c t = G m c := by
  funext y
  obtain ⟨r, j, rfl⟩ : ∃ r j : Fin 512, y = ix2 r j := ⟨y 0, y 1, (ix2_eta y).symm⟩
  unfold outsAt0
  rw [out_apply]
  simp only [iblk0_apply, iblk1_apply, iblk2_apply, iblk3_apply, iblk4_apply, iblk5_apply, iblk6_apply, iblk7_apply,
    iblk8_apply, iblk9_apply]
  rfl

/-- What the point writes back is its block of that function. -/
theorem flushed10_eq (c : Dev nD) (t : Fin cfg0.N) :
    (dats m 0 c).flushed 10 t = ((cfg0.win 10).blk t).view.read (Elt Ideal) (G m c) := by
  rw [flushed10, outsAt_eq]
  exact cut10_eq t _

/-- The result array after the run. -/
theorem final10 (c : Dev nD) : (dats m 0 c).arrAt 10 cfg0.N = G m c :=
  (dats m 0 c).arrAt_eq_of_cover 10 (G m c) (fun t _ => flushed10_eq m c t) covered10

/-- The run with the result array at that function of the arguments, which it leaves as they were. -/
theorem run : θ_run defs (onTc (τ := τ) (main (F := Ideal))) ⟨m, fun _ => 0, ρ⟩ fun r => ∀ c : Dev nD,
      r.2.mem ((c : Thread nD τ).loc main_v9) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final10 m c), (h c).2⟩) (run_blocks m ρ)

end Cert.KernelIdeal.KernelValue

end
-- ==== Proof.lean ====
module

public import proofs.«01_k».proof.Defs
public import proofs.«01_k».proof.Proof.Gen.Kernel.Frame
public import proofs.«01_k».proof.Proof.Gen.ReferenceIdeal.Run
public import proofs.«01_k».proof.Proof.Finite
public import proofs.«01_k».proof.Proof.RefValue
public import proofs.«01_k».proof.Proof.Equation
public import proofs.«01_k».proof.Proof.KernelValue
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_unbiased.Facts := Cert.Finite.facts

/-- The reference ends, leaves its arguments as they were and every semaphore at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- So it does under the precondition. -/
theorem reference_frame_pre : Cert.quiescent_ReferenceIdeal_pre_finite_unbiased := fun m ρ _ =>
  reference_frame m ρ trivial

/-- Each named constant rounds to the bits that the kernel holds. -/
theorem preserves : Cert.preserves_Kernel_KernelIdeal :=
  ⟨IdealRules.named_const.statement Cert.KernelIdeal.κ "half_sum" .f32 0x3F0147AE#32 ((542239621 / 1073741824 : ℝ) : EReal) rfl,
    IdealRules.named_const.statement Cert.KernelIdeal.κ "half_diff" .f32 0x3EFD70A4#32 ((531502203 / 1073741824 : ℝ) : EReal) rfl,
    IdealRules.named_const.statement Cert.KernelIdeal.κ "slope" .f32 0x3C23D70A#32 ((5368709 / 536870912 : ℝ) : EReal) rfl,
    IdealRules.named_const.statement Cert.KernelIdeal.κ "slope" .bf16 0x3C24#16 ((5368709 / 536870912 : ℝ) : EReal) rfl⟩

/-- Under the precondition the kernel's result array is the reference's. -/
theorem algebraic : Cert.algebraic_KernelIdeal_ReferenceIdeal_pre_finite_unbiased := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨ha, hb, hw, hbe⟩ := Cert.Finite.elements _ _ _ _ _ _ _ _ _ _ _ (hpre c)
  obtain ⟨h0, h1, -, h3, h4, h5, h6, h7, h8, h9, h10⟩ := hagree c
  funext y
  obtain ⟨r, j, rfl⟩ : ∃ r j : Fin 512, y = ix2 r j := ⟨y 0, y 1, (ix2_eta y).symm⟩
  refine (Cert.ReferenceIdeal.RefValue.result_apply m' c r j).trans ?_
  rw [h0, h1, h3, h4, h5, h6, h7, h8, h9, h10]
  exact (Cert.Spec.pairScoreK_eq _ _ _ _ _ _ _ _ _ _ _ r j (fun i q => ha _) (fun i q => hb _) (fun e => hw _)
    (fun e => hbe _)).symm

/-- Everything the certificate claims. -/
theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ,
    fun m ρ _ => Cert.KernelIdeal.Gen.frame m ρ, reference_frame, reference_frame_pre, preserves, algebraic⟩

end Cert.Proof

end
